-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x4096 : Shape := ⟨2, ![2048, 4096]⟩
abbrev S4096x4096 : Shape := ⟨2, ![4096, 4096]⟩
abbrev S8192 : Shape := ⟨1, ![8192]⟩
abbrev S4096x2 : Shape := ⟨2, ![4096, 2]⟩
abbrev S512x4096 : Shape := ⟨2, ![512, 4096]⟩
abbrev S512x2 : Shape := ⟨2, ![512, 2]⟩
abbrev S2048x512 : Shape := ⟨2, ![2048, 512]⟩
abbrev S256x4096 : Shape := ⟨2, ![256, 4096]⟩
abbrev S256x1 : Shape := ⟨2, ![256, 1]⟩
abbrev S1024x4096 : Shape := ⟨2, ![1024, 4096]⟩
abbrev S1024x256 : Shape := ⟨2, ![1024, 256]⟩

abbrev nBuf : Space → Nat
  | .hbm => 5
  | .vmem => 9
  | .smem => 0
  | _ => 0

abbrev bufTy : (tb : Table) → Fin (tcTables nBuf tb) → BufTy
  | .hbm, ⟨0, _⟩ => ⟨S2048x4096, .bf16⟩
  | .hbm, ⟨1, _⟩ => ⟨S4096x4096, .i32⟩
  | .hbm, ⟨2, _⟩ => ⟨S8192, .bf16⟩
  | .hbm, ⟨3, _⟩ => ⟨S4096x2, .bf16⟩
  | .hbm, ⟨4, _⟩ => ⟨S2048x4096, .bf16⟩
  | .local _ .vmem, ⟨0, _⟩ => ⟨S2048x4096, .bf16⟩
  | .local _ .vmem, ⟨1, _⟩ => ⟨S512x4096, .i32⟩
  | .local _ .vmem, ⟨2, _⟩ => ⟨S512x4096, .i32⟩
  | .local _ .vmem, ⟨3, _⟩ => ⟨S512x2, .bf16⟩
  | .local _ .vmem, ⟨4, _⟩ => ⟨S512x2, .bf16⟩
  | .local _ .vmem, ⟨5, _⟩ => ⟨S2048x512, .bf16⟩
  | .local _ .vmem, ⟨6, _⟩ => ⟨S2048x512, .bf16⟩
  | .local _ .vmem, ⟨7, _⟩ => ⟨S256x4096, .bf16⟩
  | .local _ .vmem, ⟨8, _⟩ => ⟨S256x4096, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2048x4096 : Shape := ⟨2, ![2048, 4096]⟩
abbrev S4096x4096 : Shape := ⟨2, ![4096, 4096]⟩
abbrev S8192 : Shape := ⟨1, ![8192]⟩
abbrev S4096 : Shape := ⟨1, ![4096]⟩
abbrev S_ : Shape := ⟨0, ![]⟩
abbrev S4096x1 : Shape := ⟨2, ![4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x4096, .i32⟩
  | .hbm, ⟨2, _⟩ => ⟨S8192, .bf16⟩
  | .hbm, ⟨3, _⟩ => ⟨S4096, .bf16⟩
  | .hbm, ⟨4, _⟩ => ⟨S4096, .bf16⟩
  | .hbm, ⟨5, _⟩ => ⟨S_, .i32⟩
  | .hbm, ⟨6, _⟩ => ⟨S4096x4096, .i32⟩
  | .hbm, ⟨7, _⟩ => ⟨S4096x4096, .i1⟩
  | .hbm, ⟨8, _⟩ => ⟨S4096x1, .bf16⟩
  | .hbm, ⟨9, _⟩ => ⟨S_, .i32⟩
  | .hbm, ⟨10, _⟩ => ⟨S4096x4096, .i32⟩
  | .hbm, ⟨11, _⟩ => ⟨S4096x4096, .i1⟩
  | .hbm, ⟨12, _⟩ => ⟨S4096x1, .bf16⟩
  | .hbm, ⟨13, _⟩ => ⟨S_, .bf16⟩
  | .hbm, ⟨14, _⟩ => ⟨S4096x4096, .bf16⟩
  | .hbm, ⟨15, _⟩ => ⟨S4096x4096, .bf16⟩
  | .hbm, ⟨16, _⟩ => ⟨S4096x4096, .bf16⟩
  | .hbm, ⟨17, _⟩ => ⟨S4096x4096, .bf16⟩
  | .hbm, ⟨18, _⟩ => ⟨S4096x4096, .bf16⟩
  | .hbm, ⟨19, _⟩ => ⟨S4096x4096, .bf16⟩
  | .hbm, ⟨20, _⟩ => ⟨S2048x4096, .f32⟩
  | .hbm, ⟨21, _⟩ => ⟨S2048x4096, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_v8 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Proof.Decode.lean ====
/-
  Hand-written, untrusted. THE ARITHMETIC of one grid point's body at the extended reals, read at an index of variables:
  the decoding of a ternary weight from its integer code, and a tile's product.
-/
module

public import proofs.«01_k».proof.Proof.Gen.KernelIdeal.Skeleton
public import Idealize.ShloMosaic.Lib.Pointwise
public import Idealize.ShloMosaic.PureOps.Ideal

@[expose] public section

set_option maxRecDepth 16384

noncomputable section

namespace Cert.Proof.Decode

open Idealize.ShloMosaic
open Cert.KernelIdeal Cert.KernelIdeal.Gen

/-- The weight that a ternary code stands for: its row's minimum for code 1, its row's maximum for code 2, and zero for
    every other word. -/
def decode (code : BitVec 32) (lo hi : EReal) : EReal :=
  if code = 1#32 then lo else if code = 2#32 then hi else 0

/-- The bfloat16 word `0x4000` is the number two. -/
theorem two_bf16 : Ideal.ofBits .bf16 0x4000#16 = ((2 : ℝ) : EReal) := by
  simp [Ideal.ofBits, Ideal.ieee, -EReal.coe_mul]
  norm_num

/-- A code converted to a number equals the number of a given word exactly when it is that word: the conversion is
    exact, so the kernel may compare codes as numbers. -/
theorem sitofp_eq_iff (code word : BitVec 32) :
    (FloatOps.sitofp (F := Ideal) .bf16 code : EReal) = (((word.toInt : ℤ) : ℝ) : EReal) ↔ code = word := by
  show (((code.toInt : ℤ) : ℝ) : EReal) = _ ↔ _
  rw [EReal.coe_eq_coe_iff, Int.cast_inj, BitVec.toInt_inj]

/-- The code's number is one exactly when the code is one, -/
theorem sitofp_eq_one (code : BitVec 32) : (FloatOps.sitofp (F := Ideal) .bf16 code : EReal) = 1 ↔ code = 1#32 := by
  rw [← sitofp_eq_iff code 1#32]
  norm_num

/-- and two exactly when the code is two. -/
theorem sitofp_eq_two (code : BitVec 32) :
    (FloatOps.sitofp (F := Ideal) .bf16 code : EReal) = Ideal.ofBits .bf16 0x4000#16 ↔ code = 2#32 := by
  rw [two_bf16, ← sitofp_eq_iff code 2#32, show (2#32 : BitVec 32).toInt = 2 from by decide, Int.cast_ofNat]

/-- What the kernel selects by comparing a code's number is the code's weight. -/
theorem select_eq_decode (code : BitVec 32) (lo hi : EReal) :
    (if (FloatOps.sitofp (F := Ideal) .bf16 code : EReal) = 1 then lo
      else if (FloatOps.sitofp (F := Ideal) .bf16 code : EReal) = Ideal.ofBits .bf16 0x4000#16 then hi else 0)
      = decode code lo hi := by
  simp only [sitofp_eq_one, sitofp_eq_two, decode]

/-- A sub-block's decoded weights, at row `r` and column `k`. -/
theorem weights_at (c : Vec Ideal S256x4096 .i32) (lo hi : Vec Ideal S256x1 .bf16) (r : Fin 256) (k : Fin 4096) :
    k0_pay5 c lo hi (ix2 r k) = decode (c (ix2 r k)) (lo (ix2 r 0)) (hi (ix2 r 0)) := by
  pointwise [k0_pay5, k0_pay4]
  exact select_eq_decode _ _ _

/-- The second sub-block is decoded as the first is. -/
theorem weights_second : k0_pay1 (F := Ideal) k0_pay4 = k0_pay5 := rfl

/-- A tile's product, at batch row `i` and weight row `r`: the sum over the columns. -/
theorem product_at (x : Vec Ideal S1024x4096 .bf16) (w : Vec Ideal S256x4096 .bf16) (i : Fin 1024) (r : Fin 256) :
    k0_pay6 x w (ix2 i r) = ∑ k : Fin 4096, (x (ix2 i k) * w (ix2 r k) : EReal) := by
  pointwise [k0_pay6]

/-- The other three tiles' products are the same function of their operands. -/
theorem product_first_bottom : k0_pay7 (F := Ideal) = k0_pay6 := rfl
theorem product_second_top : k0_pay2 (F := Ideal) = k0_pay6 := rfl
theorem product_second_bottom : k0_pay3 (F := Ideal) = k0_pay6 := rfl

end Cert.Proof.Decode

end
-- ==== Proof.Reference.lean ====
/-
  Hand-written, untrusted. WHAT THE REFERENCE COMPUTES at the extended reals: its composed term as one function of the three
  argument arrays, and that function read at a batch row and a weight row.
-/
module

public import proofs.«01_k».proof.Proof.Gen.ReferenceIdeal.Run
public import proofs.«01_k».proof.Proof.Decode

@[expose] public section

set_option maxRecDepth 16384

noncomputable section

namespace Cert.Proof.Reference

open Idealize.ShloMosaic Idealize.ShloMosaic.TcCoe Idealize.SL.Sem
open Cert.ReferenceIdeal Cert.ReferenceIdeal.Gen
open Cert.Proof.Decode (decode)

/-- The reference's weight matrix, from the codes and the interleaved row minima and maxima. -/
def weights (w : IVec S4096x4096 32) (mm : FVec Ideal S8192 .bf16) : FVec Ideal S4096x4096 .bf16 :=
  select (cmpi .eq w (broadcastInDim S4096x4096 ![] bcast_S_S4096x4096 (constantI S_ 32 1#32)))
    (broadcastInDim S4096x4096 ![0, 1] bcast_S4096x1_S4096x4096_0_1 (broadcastInDim S4096x1 ![0] bcast_S4096_S4096x1_0
      (Host.slice S4096 ![0] ![2] mm slicesBy_S8192_S4096_0s2)))
    (select (cmpi .eq w (broadcastInDim S4096x4096 ![] bcast_S_S4096x4096 (constantI S_ 32 2#32)))
      (broadcastInDim S4096x4096 ![0, 1] bcast_S4096x1_S4096x4096_0_1 (broadcastInDim S4096x1 ![0] bcast_S4096_S4096x1_0
        (Host.slice S4096 ![1] ![2] mm slicesBy_S8192_S4096_1s2)))
      (broadcastInDim S4096x4096 ![] bcast_S_S4096x4096 (constant S_ .bf16 0x0000#16)))

/-- The reference's result: the batch times the transposed weight matrix. -/
def result (x : FVec Ideal S2048x4096 .bf16) (w : IVec S4096x4096 32) (mm : FVec Ideal S8192 .bf16) : FVec Ideal S2048x4096 .bf16 :=
  truncf .bf16 (Host.dotGeneral (φ₂ := .f32) dot_S2048x4096_S4096x4096_S2048x4096_1_0_0_1_n_n none x
    (transpose S4096x4096 [1, 0] (weights w mm) transposes_S4096x4096_S4096x4096_1_0)) bitsLt_bf16_f32

/-- Selecting by an equality of words is a case split on that equality. -/
theorem select_eq_word (a b : BitVec 32) (u v : EReal) :
    Scalar.select (IntOp.cmpi .eq a b) u v = if a = b then u else v := by
  by_cases h : a = b <;> simp [Scalar.select, IntOp.cmpi, h, beq_eq_false_iff_ne.mpr]

/-- Weight `(n, k)` is decoded from its code and from entries `2n` and `2n + 1` of the interleaved vector. -/
theorem weights_at (w : IVec S4096x4096 32) (mm : FVec Ideal S8192 .bf16) (n k : Fin 4096) :
    weights w mm (ix2 n k) = decode (w (ix2 n k)) (mm (ix1 ⟨2 * n.val, by omega⟩)) (mm (ix1 ⟨2 * n.val + 1, by omega⟩)) := by
  pointwise [weights, decode]
  simp only [select_eq_word, Nat.add_comm 1]

/-- Result `(b, n)` is the sum over the columns of the batch entry times the weight. -/
theorem result_at (x : FVec Ideal S2048x4096 .bf16) (w : IVec S4096x4096 32) (mm : FVec Ideal S8192 .bf16)
    (b : Fin 2048) (n : Fin 4096) :
    result x w mm (ix2 b n) = ∑ k : Fin 4096, (x (ix2 b k) * weights w mm (ix2 n k) : EReal) := by
  pointwise [result]

end Cert.Proof.Reference

end
-- ==== Proof.Tiles.lean ====
/-
  Hand-written, untrusted. WHAT ONE GRID POINT WRITES, tile by tile, against the reference's result, and the array that the
  idealized kernel leaves.
-/
module

public import proofs.«01_k».proof.Proof.Gen.KernelIdeal.Value
public import Idealize.ShloMosaic.Lib.Pipeline.ValueKit
public import proofs.«01_k».proof.Proof.Decode
public import proofs.«01_k».proof.Proof.Reference

@[expose] public section

set_option maxRecDepth 16384

noncomputable section

namespace Cert.Proof.Tiles

open Idealize.ShloMosaic Idealize.ShloMosaic.TcCoe Idealize.SL.Sem
open Idealize.ShloMosaic.Pipeline (Dat)
open Cert.KernelIdeal Cert.KernelIdeal.Gen
open Cert.Proof.Decode (decode)

variable (m : (ℓ : Loc nD τ sig) → Buf (Elt Ideal) ℓ)

/-- The windows' block indices at a point. -/
theorem index_at : ∀ t : Fin cfg0.N, win0_0.index t = ![0, 0] ∧ win0_1.index t = ![t.val, 0] ∧ win0_2.index t = ![t.val, 0]
    ∧ win0_3.index t = ![0, t.val] :=
  (by decide +kernel : ∀ t : Fin grid0.N, _)

/-- The batch window's block is the whole batch, at every point. -/
theorem batch_block (c : Dev nD) (t : Fin cfg0.N) (b : Fin 2048) (k : Fin 4096) :
    iblk m c 0 t (ix2 b k) = m ((c : Thread nD τ).loc main_arg0) (ix2 b k) := by
  blk_point [iblk, V, index_at t]

/-- The code window's block at point `t` is rows `512 t` to `512 t + 511` of the codes. -/
theorem code_block (c : Dev nD) (t : Fin cfg0.N) (r : Fin 512) (k : Fin 4096) (n : Fin 4096) (hn : n.val = 512 * t.val + r.val) :
    iblk m c 1 t (ix2 r k) = m ((c : Thread nD τ).loc main_arg1) (ix2 n k) := by
  blk_point [iblk, V, index_at t]

/-- The interleaved vector as a matrix of two columns, read at a row and a column. -/
theorem pairs_at (v : FVec Ideal S8192 .bf16) (n : Fin 4096) (e : Fin 2) :
    shapeCast S4096x2 v shapeCasts_S8192_S4096x2 (ix2 n e) = v (ix1 ⟨2 * n.val + e.val, by omega⟩) := by
  pointwise
  blk_point []

/-- The third window's block at point `t` holds the same rows' minima and maxima: entry `(r, e)` is entry `2 n + e` of the
    interleaved vector, for `n = 512 t + r`. -/
theorem pair_block (c : Dev nD) (t : Fin cfg0.N) (r : Fin 512) (e : Fin 2) (n : Fin 4096) (hn : n.val = 512 * t.val + r.val) :
    iblk m c 2 t (ix2 r e) = m ((c : Thread nD τ).loc main_arg2) (ix1 ⟨2 * n.val + e.val, by omega⟩) := by
  blk_simp [iblk, index_at t]
  entry_read
  refine Eq.trans (congrArg _ (?_ : _ = ix2 n e)) (pairs_at _ n e)
  blk_ext [index_at t]

/-- ONE TILE. Batch rows `mb + i` against the weights decoded from rows `nb + r` of the point's code block are the
    reference's result at batch row `mb + i` and weight row `512 t + nb + r`. -/
theorem tile_eq (c : Dev nD) (t : Fin cfg0.N) (mb nb : ℕ) (hmb : mb + 1024 ≤ 2048) (hnb : nb + 256 ≤ 512)
    (X : Vec Ideal S1024x4096 .bf16) (C : Vec Ideal S256x4096 .i32) (L H : Vec Ideal S256x1 .bf16)
    (hX : ∀ (i : Fin 1024) (k : Fin 4096), X (ix2 i k) = iblk m c 0 t (ix2 ⟨mb + i.val, by omega⟩ k))
    (hC : ∀ (r : Fin 256) (k : Fin 4096), C (ix2 r k) = iblk m c 1 t (ix2 ⟨nb + r.val, by omega⟩ k))
    (hL : ∀ r : Fin 256, L (ix2 r 0) = iblk m c 2 t (ix2 ⟨nb + r.val, by omega⟩ 0))
    (hH : ∀ r : Fin 256, H (ix2 r 0) = iblk m c 2 t (ix2 ⟨nb + r.val, by omega⟩ 1))
    (x : S1024x256.Idx) (j : S2048x4096.Idx) (hj0 : (j 0).val = mb + (x 0).val)
    (hj1 : (j 1).val = 512 * t.val + (nb + (x 1).val)) :
    k0_pay6 X (k0_pay5 C L H) x = Reference.result (m ((c : Thread nD τ).loc main_arg0)) (m ((c : Thread nD τ).loc main_arg1))
      (m ((c : Thread nD τ).loc main_arg2)) j := by
  idx_vars x
  idx_vars j
  rw [Decode.product_at]
  refine Eq.trans ?_ (Reference.result_at _ _ _ _ _).symm
  refine Finset.sum_congr rfl fun k _ => ?_
  rw [Decode.weights_at, hX, hC, hL, hH, batch_block, code_block m c t _ _ j1 hj1, pair_block m c t _ _ j1 hj1,
    pair_block m c t _ _ j1 hj1]
  refine Eq.trans ?_ (congrArg _ (Reference.weights_at _ _ _ _).symm)
  have hlt : mb + x0.val < 2048 := hj0 ▸ j0.isLt
  rw [show j0 = ⟨mb + x0.val, hlt⟩ from Fin.ext hj0]
  rfl

/-- THE RESULT ARRAY after the run is the reference's result of the three argument arrays: the eight points' blocks cover
    the array, and each of the four tiles that a point stores is `tile_eq` at its place. -/
theorem final (c : Dev nD) : (dats m 0 c).arrAt 3 cfg0.N
    = Reference.result (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  rw [Decode.product_first_bottom, Decode.product_second_top, Decode.product_second_bottom, Decode.weights_second]
  canon_tiles x h
  · refine tile_eq m c t 1024 256 (by omega) (by omega) _ _ _ _ (fun i k => ?_) (fun r k => ?_) (fun r => ?_) (fun r => ?_) x _ ?_ ?_
    on_goal 5 => blk_simp [index_at t]; omega
    on_goal 5 => blk_simp [index_at t]; omega
    all_goals pointwise
  · refine tile_eq m c t 0 256 (by omega) (by omega) _ _ _ _ (fun i k => ?_) (fun r k => ?_) (fun r => ?_) (fun r => ?_) x _ ?_ ?_
    on_goal 5 => blk_simp [index_at t]; omega
    on_goal 5 => blk_simp [index_at t]; omega
    all_goals pointwise
  · refine tile_eq m c t 1024 0 (by omega) (by omega) _ _ _ _ (fun i k => ?_) (fun r k => ?_) (fun r => ?_) (fun r => ?_) x _ ?_ ?_
    on_goal 5 => blk_simp [index_at t]; omega
    on_goal 5 => blk_simp [index_at t]; omega
    all_goals pointwise
  · refine tile_eq m c t 0 0 (by omega) (by omega) _ _ _ _ (fun i k => ?_) (fun r k => ?_) (fun r => ?_) (fun r => ?_) x _ ?_ ?_
    on_goal 5 => blk_simp [index_at t]; omega
    on_goal 5 => blk_simp [index_at t]; omega
    all_goals pointwise

end Cert.Proof.Tiles

end
-- ==== Proof.lean ====
/- Hand-written, untrusted. The proof of `Cert.Claim`: the three frames, the idealization, and the equality of the kernel and
   the reference over the extended reals, assembled from Proof/Decode.lean (the arithmetic), Proof/Reference.lean (what the
   reference computes) and Proof/Tiles.lean (what the kernel leaves in its result array). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Tiles
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- Kernel and reference leave the same result, `Reference.result` of the argument arrays, over the extended reals. -/
theorem algebraic : Cert.algebraic_KernelIdeal_ReferenceIdeal := fun m ρ m' ρ' _ hag =>
  ⟨fun c => Reference.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    (θ_run _ _ _).mono (fun _ h c => ⟨(h c).1.trans (Tiles.final m c), (h c).2⟩) (Cert.KernelIdeal.Value.run_blocks m ρ),
    (θ_run _ _ _).mono (fun _ h c => ⟨(h c).1.trans (by rw [(hag c).1, (hag c).2.1, (hag c).2.2]; rfl), (h c).2⟩)
      (Cert.ReferenceIdeal.Value.run m' ρ')⟩

/-- The reference's frame: its run writes no argument, and it declares no semaphore. -/
theorem reference_frame : Cert.quiescent_ReferenceIdeal := fun m ρ _ =>
  (θ_run _ _ _).mono (fun r h => ⟨fun c => (h c).2, sem_eq_zero_of_no_sems (by decide) r.2⟩) (Cert.ReferenceIdeal.Value.run m ρ)

/-- Every claim of the certificate. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  reference_frame,
  trivial,
  algebraic⟩

end Cert.Proof

end
